-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S100000 : Shape := ⟨1, ![100000]⟩
abbrev S256x128 : Shape := ⟨2, ![256, 128]⟩
abbrev S32x256 : Shape := ⟨2, ![32, 256]⟩
abbrev S32 : Shape := ⟨1, ![32]⟩
abbrev S50x1x2000 : Shape := ⟨3, ![50, 1, 2000]⟩
abbrev S1x32 : Shape := ⟨2, ![1, 32]⟩
abbrev S256x32 : Shape := ⟨2, ![256, 32]⟩
abbrev S1x1x2000 : Shape := ⟨3, ![1, 1, 2000]⟩
abbrev S2000x128 : Shape := ⟨2, ![2000, 128]⟩
abbrev S256 : Shape := ⟨1, ![256]⟩
abbrev S2000 : Shape := ⟨1, ![2000]⟩
abbrev S256x2000 : Shape := ⟨2, ![256, 2000]⟩
abbrev S1x2000 : Shape := ⟨2, ![1, 2000]⟩
abbrev S256x1 : Shape := ⟨2, ![256, 1]⟩
abbrev S256x256 : Shape := ⟨2, ![256, 256]⟩

abbrev nBuf : Space → Nat
  | .hbm => 8
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S256x128, .f32⟩
  | .hbm, ⟨3, _⟩ => ⟨S32x256, .f32⟩
  | .hbm, ⟨4, _⟩ => ⟨S32, .f32⟩
  | .hbm, ⟨5, _⟩ => ⟨S50x1x2000, .i32⟩
  | .hbm, ⟨6, _⟩ => ⟨S1x32, .f32⟩
  | .hbm, ⟨7, _⟩ => ⟨S256x32, .f32⟩
  | .local _ .vmem, ⟨0, _⟩ => ⟨S1x1x2000, .i32⟩
  | .local _ .vmem, ⟨1, _⟩ => ⟨S1x1x2000, .i32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S32x256, .f32⟩
  | .local _ .vmem, ⟨6, _⟩ => ⟨S1x32, .f32⟩
  | .local _ .vmem, ⟨7, _⟩ => ⟨S256x32, .f32⟩
  | .local _ .vmem, ⟨8, _⟩ => ⟨S256x128, .f32⟩
  | .local _ .vmem, ⟨9, _⟩ => ⟨S256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v24 : BitVec 1 := Scalar.cmpi .eq arg0 c49_i32
  let v25 : BitVec 32 := Scalar.extui v24
  let c0_i32_12 : BitVec 32 := 0#32
  let v26 : BitVec 1 := Scalar.cmpi .ne v25 c0_i32_12
  v26

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x128 : Shape := ⟨2, ![100000, 128]⟩
abbrev S100000 : Shape := ⟨1, ![100000]⟩
abbrev S256x128 : Shape := ⟨2, ![256, 128]⟩
abbrev S32x256 : Shape := ⟨2, ![32, 256]⟩
abbrev S32 : Shape := ⟨1, ![32]⟩
abbrev S_ : Shape := ⟨0, ![]⟩
abbrev S100000x1 : Shape := ⟨2, ![100000, 1]⟩
abbrev S256 : Shape := ⟨1, ![256]⟩
abbrev S256x1 : Shape := ⟨2, ![256, 1]⟩
abbrev S256x256 : Shape := ⟨2, ![256, 256]⟩
abbrev S256x32 : Shape := ⟨2, ![256, 32]⟩
abbrev S1x32 : Shape := ⟨2, ![1, 32]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S256x128, .f32⟩
  | .hbm, ⟨3, _⟩ => ⟨S32x256, .f32⟩
  | .hbm, ⟨4, _⟩ => ⟨S32, .f32⟩
  | .hbm, ⟨5, _⟩ => ⟨S_, .f32⟩
  | .hbm, ⟨6, _⟩ => ⟨S256x128, .f32⟩
  | .hbm, ⟨7, _⟩ => ⟨S100000x1, .i32⟩
  | .hbm, ⟨8, _⟩ => ⟨S256x128, .f32⟩
  | .hbm, ⟨9, _⟩ => ⟨S_, .f32⟩
  | .hbm, ⟨10, _⟩ => ⟨S100000, .f32⟩
  | .hbm, ⟨11, _⟩ => ⟨S_, .f32⟩
  | .hbm, ⟨12, _⟩ => ⟨S256, .f32⟩
  | .hbm, ⟨13, _⟩ => ⟨S100000x1, .i32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S256x1, .f32⟩
  | .hbm, ⟨19, _⟩ => ⟨S256x128, .f32⟩
  | .hbm, ⟨20, _⟩ => ⟨S256x128, .f32⟩
  | .hbm, ⟨21, _⟩ => ⟨S256x256, .f32⟩
  | .hbm, ⟨22, _⟩ => ⟨S256x32, .f32⟩
  | .hbm, ⟨23, _⟩ => ⟨S256x32, .f32⟩
  | .hbm, ⟨24, _⟩ => ⟨S1x32, .f32⟩
  | .hbm, ⟨25, _⟩ => ⟨S256x32, .f32⟩
  | .hbm, ⟨26, _⟩ => ⟨S256x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Pooling.lean ====
/-
  Mean pooling of node rows over graphs and the linear classifier on top of it, stated on plain
  functions: which graph a node belongs to, the sum and the number of a graph's nodes, and the
  logits made of them. The kernel and the reference are both shown to compute `logit`.
-/
module

public import Idealize.ShloMosaic.Lib.Pipeline.ValueKit
public import Idealize.ShloMosaic.Lib.IdealHost

@[expose] public section

noncomputable section

namespace Cert.Pooling

open Idealize.ShloMosaic

/-- One when the node's graph word is the number `g`, zero when it is anything else. -/
def member (w : BitVec 32) (g : ℕ) : EReal := if w = BitVec.ofNat 32 g then 1 else 0

/-- The sum of `v` over the nodes of graph `g`, as a sum over all nodes weighted by membership. -/
def total (ids : Fin 100000 → BitVec 32) (v : Fin 100000 → EReal) (g : ℕ) : EReal :=
  ∑ n, member (ids n) g * v n

/-- The number of nodes of graph `g`. -/
def count (ids : Fin 100000 → BitVec 32) (g : ℕ) : EReal := ∑ n, member (ids n) g

/-- The logit of graph `g` and class `k`: the graph's mean row against the first half of the
    class's weights, its own embedding against the second half, plus the bias. A graph without
    nodes is divided by one. -/
def logit (ids : Fin 100000 → BitVec 32) (x : Fin 100000 → Fin 128 → EReal) (emb : Fin 256 → Fin 128 → EReal)
    (W : Fin 32 → Fin 256 → EReal) (b : Fin 32 → EReal) (g : Fin 256) (k : Fin 32) : EReal :=
  ∑ h : Fin 128, Ideal.div (total ids (fun n => x n h) g) (max (count ids g) 1) * W k ⟨h, by omega⟩
    + ∑ h : Fin 128, emb g h * W k ⟨128 + h, by omega⟩ + b k

/-- A word is the number `g` below 256 exactly when its signed reading is. -/
theorem toInt_eq_iff (w : BitVec 32) (g : Fin 256) : w.toInt = (g.val : ℤ) ↔ w = BitVec.ofNat 32 g.val := by
  have hg := g.isLt
  have hw := w.isLt
  rw [← BitVec.toNat_inj, BitVec.toNat_ofNat, BitVec.toInt_eq_toNat_cond]
  split <;> omega

/-- The sum of `v` over the nodes whose signed graph word is `g` is `total`. -/
theorem sum_signed_eq_total (ids : Fin 100000 → BitVec 32) (v : Fin 100000 → EReal) (g : Fin 256) :
    (∑ n, if (ids n).toInt = (g.val : ℤ) then v n else 0) = total ids v g :=
  Finset.sum_congr rfl fun n _ => by
    unfold member
    by_cases h : ids n = BitVec.ofNat 32 g.val
    · rw [if_pos ((toInt_eq_iff _ g).2 h), if_pos h, one_mul]
    · rw [if_neg fun q => h ((toInt_eq_iff _ g).1 q), if_neg h, zero_mul]

/-- A total of ones is the count. -/
theorem total_one (ids : Fin 100000 → BitVec 32) (g : ℕ) : total ids (fun _ => 1) g = count ids g :=
  Finset.sum_congr rfl fun _ _ => mul_one _

/-- `total` taken 2000 nodes at a time. -/
theorem sum_blocks_total (ids : Fin 100000 → BitVec 32) (v : Fin 100000 → EReal) (g : ℕ) :
    (∑ p : Fin 50, ∑ l : Fin 2000, member (ids ⟨p.val * 2000 + l.val, by omega⟩) g * v ⟨p.val * 2000 + l.val, by omega⟩)
      = total ids v g :=
  Fin.sum_mul_add_fin 50 2000 (fun n : Fin 100000 => member (ids n) g * v n)

/-- `count` taken 2000 nodes at a time. -/
theorem sum_blocks_count (ids : Fin 100000 → BitVec 32) (g : ℕ) :
    (∑ p : Fin 50, ∑ l : Fin 2000, member (ids ⟨p.val * 2000 + l.val, by omega⟩) g) = count ids g :=
  Fin.sum_mul_add_fin 50 2000 (fun n : Fin 100000 => member (ids n) g)

end Cert.Pooling

end
-- ==== Proof.KernelBody.lean ====
/-
  What the kernel's body computes, entry by entry: the membership matrix of one block of 2000
  nodes, the two accumulators after a block, and the logits made at the last block.
-/
module

public import proofs.«01_k».proof.Proof.Gen.KernelIdeal.Skeleton
public import proofs.«01_k».proof.Proof.Pooling

@[expose] public section

set_option maxRecDepth 16384

noncomputable section

namespace Cert.Pooling

open Idealize.ShloMosaic Cert.KernelIdeal Cert.KernelIdeal.Gen

/-- The row accumulator starts at zero. -/
theorem pay1_apply (i : S256x128.Idx) : k0_pay1 (F := Ideal) i = 0 := by
  unfold k0_pay1
  pointwise

/-- The node counter starts at zero. -/
theorem pay2_apply (i : S256.Idx) : k0_pay2 (F := Ideal) i = 0 := by
  unfold k0_pay2
  pointwise

/-- The block's one-hot matrix holds, for graph `g` and node `l`, whether the node is in the graph. -/
theorem pay3_apply (v3 : Vec Ideal S1x1x2000 .i32) (g : Fin 256) (l : Fin 2000) :
    k0_pay3 (F := Ideal) v3 (ix2 g l) = member (v3 (ix3 0 0 l)) g := by
  unfold k0_pay3 member
  pointwise
  change (((BitVec.setWidth 32 (IntOp.cmpi .eq (v3 (ix3 0 0 l)) (BitVec.ofNat 32 g.val))).toInt : ℝ) : EReal) = _
  by_cases h : v3 (ix3 0 0 l) = BitVec.ofNat 32 g.val
  · rw [if_pos h, IntOp.cmpi_eq.2 h]; norm_num
  · have hz : IntOp.cmpi .eq (v3 (ix3 0 0 l)) (BitVec.ofNat 32 g.val) = 0#1 := by
      rw [IntOp.cmpi, beq_eq_false_iff_ne.2 h]; rfl
    rw [if_neg h, hz]; norm_num

/-- After a block, the row accumulator has gained the rows of the block's nodes of each graph. -/
theorem pay4_apply (v3 : Vec Ideal S1x1x2000 .i32) (v11 : Vec Ideal S256x128 .f32) (v12 : Vec Ideal S2000x128 .f32)
    (g : Fin 256) (h : Fin 128) :
    k0_pay4 (F := Ideal) v3 v11 v12 (ix2 g h)
      = v11 (ix2 g h) + ∑ l : Fin 2000, member (v3 (ix3 0 0 l)) g * v12 (ix2 l h) := by
  unfold k0_pay4
  pointwise
  simp only [pay3_apply]

/-- After a block, the counter has gained the number of the block's nodes of each graph. -/
theorem pay5_apply (v3 : Vec Ideal S1x1x2000 .i32) (v18 : Vec Ideal S256 .f32) (g : Fin 256) :
    k0_pay5 (F := Ideal) v3 v18 (ix1 g) = v18 (ix1 g) + ∑ l : Fin 2000, member (v3 (ix3 0 0 l)) g := by
  unfold k0_pay5
  pointwise
  simp only [pay3_apply]

/-- The logits from the final counter `v27` and row accumulator `v30`. -/
theorem pay6_apply (v27 : Vec Ideal S256 .f32) (v30 v34 : Vec Ideal S256x128 .f32) (v36 : Vec Ideal S32x256 .f32)
    (v38 : Vec Ideal S1x32 .f32) (g : Fin 256) (k : Fin 32) :
    k0_pay6 (F := Ideal) v27 v30 v34 v36 v38 (ix2 g k)
      = ∑ h : Fin 128, Ideal.div (v30 (ix2 g h)) (max (v27 (ix1 g)) 1) * v36 (ix2 k ⟨h, by omega⟩)
        + ∑ h : Fin 128, v34 (ix2 g h) * v36 (ix2 k ⟨128 + h, by omega⟩) + v38 (ix2 0 k) := by
  unfold k0_pay6
  pointwise

end Cert.Pooling

end
-- ==== Proof.KernelValue.lean ====
/-
  The kernel's result, entry by entry: the accumulators after the 50 blocks are the totals and the
  counts over all 100000 nodes, so the result is `logit` of the kernel's arguments.
-/
module

public import proofs.«01_k».proof.Proof.Gen.KernelIdeal.Value
public import proofs.«01_k».proof.Proof.KernelBody
public import Idealize.ShloMosaic.Lib.Pipeline.ReadBack

@[expose] public section

set_option maxRecDepth 16384

noncomputable section

namespace Cert.Pooling

open Idealize.ShloMosaic Idealize.ShloMosaic.TcCoe Idealize.SL.Sem Cert.KernelIdeal Cert.KernelIdeal.Gen

variable (m : (ℓ : Loc nD τ sig) → Buf (Elt Ideal) ℓ) (c : Dev nD)

/-- The first block resets the row accumulator and adds its rows. -/
theorem rows_first (t : Fin cfg0.N) (h0 : t.val % 50 = 0) :
    (outsAt0 m c t.val t.isLt).2.1 = k0_pay4 (iblk m c 0 t) (k0_pay1 (F := Ideal)) (iblk m c 1 t) := by
  rw [outsAt0_A m c t h0 (by omega)]
  frame_out

/-- A later block adds its rows to the row accumulator. -/
theorem rows_next (t : Fin cfg0.N) (h0 : ¬t.val % 50 = 0) :
    (outsAt0 m c t.val t.isLt).2.1
      = k0_pay4 (iblk m c 0 t) (outsAt0 m c (t.val - 1) (Nat.lt_of_le_of_lt (Nat.sub_le _ _) t.isLt)).2.1 (iblk m c 1 t) := by
  by_cases h1 : t.val % 50 = 49
  · rw [outsAt0_C m c t h0 h1]
    frame_out
    simp only [read_unread_whole]
  · rw [outsAt0_B m c t h0 h1]
    frame_out
    simp only [read_unread_whole]

/-- The first block resets the counter and counts its nodes. -/
theorem counts_first (t : Fin cfg0.N) (h0 : t.val % 50 = 0) :
    (outsAt0 m c t.val t.isLt).2.2 = k0_pay5 (iblk m c 0 t) (k0_pay2 (F := Ideal)) := by
  rw [outsAt0_A m c t h0 (by omega)]
  frame_out

/-- A later block adds its nodes to the counter. -/
theorem counts_next (t : Fin cfg0.N) (h0 : ¬t.val % 50 = 0) :
    (outsAt0 m c t.val t.isLt).2.2
      = k0_pay5 (iblk m c 0 t) (outsAt0 m c (t.val - 1) (Nat.lt_of_le_of_lt (Nat.sub_le _ _) t.isLt)).2.2 := by
  by_cases h1 : t.val % 50 = 49
  · rw [outsAt0_C m c t h0 h1]
    frame_out
    simp only [read_unread_whole]
  · rw [outsAt0_B m c t h0 h1]
    frame_out
    simp only [read_unread_whole]

/-- The last block writes the logits of the accumulators it leaves. -/
theorem out_last (t : Fin cfg0.N) (h1 : t.val % 50 = 49) :
    (outsAt0 m c t.val t.isLt).1
      = k0_pay6 (outsAt0 m c t.val t.isLt).2.2 (outsAt0 m c t.val t.isLt).2.1 (iblk m c 2 t) (iblk m c 3 t) (iblk m c 4 t) := by
  rw [rows_next m c t (by omega), counts_next m c t (by omega), outsAt0_C m c t (by omega) h1]
  frame_out
  simp only [read_unread_whole]

/-- The host hands the kernel the node words cut into 50 rows of 2000. -/
theorem V_ids : V m c main_v0 = shapeCast (α := BitVec 32) S50x1x2000 (m ((c : Thread nD τ).loc main_arg1)) shapeCasts_S100000_S50x1x2000 := by
  unfold V
  after_results <;> rfl

/-- The host hands the kernel the bias as a row. -/
theorem V_bias : V m c main_v1 = shapeCast S1x32 (m ((c : Thread nD τ).loc main_arg4)) shapeCasts_S32_S1x32 := by
  unfold V
  after_results <;> rfl

/-- Which block each point takes of each argument: the point's own of the words and of the rows, the
    whole of the others. -/
theorem idx_facts : ∀ t : Fin cfg0.N, win0_0.index t = ![t.val, 0, 0] ∧ win0_1.index t = ![t.val, 0]
    ∧ win0_2.index t = ![0, 0] ∧ win0_3.index t = ![0, 0] ∧ win0_4.index t = ![0, 0] :=
  (by decide +kernel : ∀ t : Fin grid0.N, _)

/-- A point is one of fifty. -/
theorem point_lt (t : Fin cfg0.N) : t.val < 50 := lt_of_lt_of_eq t.isLt N_0

/-- Node `l` of a point's block has the word of node `2000 t + l`. -/
theorem ids_block (t : Fin cfg0.N) (l : Fin 2000) :
    iblk m c 0 t (ix3 0 0 l)
      = m ((c : Thread nD τ).loc main_arg1) (ix1 ⟨t.val * 2000 + l.val, by have := point_lt t; omega⟩) := by
  have h : iblk m c 0 t (ix3 0 0 l) = V m c main_v0 (ix3 ⟨t.val, point_lt t⟩ 0 l) := by
    blk_ext [iblk, idx_facts t]
  rw [h, V_ids]
  pointwise

/-- Row `l` of a point's block is the row of node `2000 t + l`. -/
theorem rows_block (t : Fin cfg0.N) (l : Fin 2000) (h : Fin 128) :
    iblk m c 1 t (ix2 l h)
      = m ((c : Thread nD τ).loc main_arg0) (ix2 ⟨t.val * 2000 + l.val, by have := point_lt t; omega⟩ h) := by
  blk_ext [iblk, V, idx_facts t]

/-- Every point has the whole of the graph embeddings. -/
theorem emb_block (t : Fin cfg0.N) (g : Fin 256) (h : Fin 128) :
    iblk m c 2 t (ix2 g h) = m ((c : Thread nD τ).loc main_arg2) (ix2 g h) := by
  blk_ext [iblk, V, idx_facts t]

/-- Every point has the whole of the class weights. -/
theorem weight_block (t : Fin cfg0.N) (k : Fin 32) (j : Fin 256) :
    iblk m c 3 t (ix2 k j) = m ((c : Thread nD τ).loc main_arg3) (ix2 k j) := by
  blk_ext [iblk, V, idx_facts t]

/-- Every point has the whole of the bias. -/
theorem bias_block (t : Fin cfg0.N) (k : Fin 32) :
    iblk m c 4 t (ix2 0 k) = m ((c : Thread nD τ).loc main_arg4) (ix1 k) := by
  have h : iblk m c 4 t (ix2 0 k) = V m c main_v1 (ix2 0 k) := by
    blk_ext [iblk, idx_facts t]
  rw [h, V_bias]
  pointwise

/-- The row accumulator after the last block holds each graph's total of rows. -/
theorem rows_last (t : Fin cfg0.N) (ht : t.val + 1 = cfg0.N) (g : Fin 256) (h : Fin 128) :
    (outsAt0 m c t.val t.isLt).2.1 (ix2 g h)
      = total (fun n => m ((c : Thread nD τ).loc main_arg1) (ix1 n)) (fun n => m ((c : Thread nD τ).loc main_arg0) (ix2 n h)) g := by
  rw [Pipeline.eq_sum_fin_of_reset_step_apply_last
    (fun n hn (i : Fin 256 × Fin 128) => (outsAt0 m c n hn).2.1 (ix2 i.1 i.2)) 50 (fun _ => 0)
    (fun t i => ∑ l : Fin 2000, member (iblk m c 0 t (ix3 0 0 l)) i.1 * iblk m c 1 t (ix2 l i.2))
    (fun t q i => by dsimp only; rw [rows_first m c t q, pay4_apply, pay1_apply])
    (fun t q i => by dsimp only; rw [rows_next m c t q, pay4_apply])
    (le_of_eq N_0) t ht (g, h), zero_add, ← sum_blocks_total]
  refine Fin.sum_fin_congr fun p => Fin.sum_fin_congr fun l => ?_
  rw [ids_block, rows_block]

/-- The counter after the last block holds each graph's number of nodes. -/
theorem counts_last (t : Fin cfg0.N) (ht : t.val + 1 = cfg0.N) (g : Fin 256) :
    (outsAt0 m c t.val t.isLt).2.2 (ix1 g) = count (fun n => m ((c : Thread nD τ).loc main_arg1) (ix1 n)) g := by
  rw [Pipeline.eq_sum_fin_of_reset_step_apply_last
    (fun n hn (i : Fin 256) => (outsAt0 m c n hn).2.2 (ix1 i)) 50 (fun _ => 0)
    (fun t i => ∑ l : Fin 2000, member (iblk m c 0 t (ix3 0 0 l)) i)
    (fun t q i => by rw [counts_first m c t q, pay5_apply, pay2_apply])
    (fun t q i => by rw [counts_next m c t q, pay5_apply])
    (le_of_eq N_0) t ht g, zero_add, ← sum_blocks_count]
  refine Fin.sum_fin_congr fun p => Fin.sum_fin_congr fun l => ?_
  rw [ids_block]

/-- The kernel's result is `logit` of its arguments. -/
theorem kernel_apply (g : Fin 256) (k : Fin 32) :
    Value.G5 m c (ix2 g k)
      = logit (fun n => m ((c : Thread nD τ).loc main_arg1) (ix1 n)) (fun n h => m ((c : Thread nD τ).loc main_arg0) (ix2 n h))
          (fun g h => m ((c : Thread nD τ).loc main_arg2) (ix2 g h)) (fun k j => m ((c : Thread nD τ).loc main_arg3) (ix2 k j))
          (fun k => m ((c : Thread nD τ).loc main_arg4) (ix1 k)) g k := by
  have hl : 49 < cfg0.N := lt_of_lt_of_eq (by decide) N_0.symm
  have ht : (⟨49, hl⟩ : Fin cfg0.N).val + 1 = cfg0.N := N_0.symm
  rw [Value.G5_last, ← Value.outsAt0_sweep m c 49 hl, out_last m c ⟨49, hl⟩ rfl, pay6_apply]
  unfold logit
  rw [counts_last m c _ ht, bias_block]
  simp only [rows_last m c _ ht, emb_block, weight_block]

end Cert.Pooling

end
-- ==== Proof.ReferenceValue.lean ====
/-
  The reference's result, entry by entry: its two segment sums read as `total` and `count`, and
  the whole expression read as `logit`.
-/
module

public import proofs.«01_k».proof.Proof.Gen.ReferenceIdeal.Run
public import proofs.«01_k».proof.Proof.Pooling
public import Idealize.ShloMosaic.Lib.Routing.OpsPair

@[expose] public section

set_option maxRecDepth 16384

noncomputable section

namespace Cert.Pooling

open Idealize.ShloMosaic Cert.ReferenceIdeal Cert.ReferenceIdeal.Facts₀

/-- Node `n`'s row starts, in its scatter, at the graph row its word says (read signed). -/
theorem rows_start0 (idx : IVec S100000x1 32) (n : Fin 100000) (h : Fin 128) :
    scatter_S256x128_S100000x1_S100000x128_1_0_0_1.start (ix2 n h) idx 0 = (idx (ix2 n 0)).toInt := by
  refine congrArg (fun i => (idx i).toInt) (funext fun a => Fin.ext ?_)
  match a with
  | ⟨0, _⟩ => rfl
  | ⟨1, _⟩ => rfl

/-- Node `n`'s row starts at the first column. -/
theorem rows_start1 (idx : IVec S100000x1 32) (n : Fin 100000) (h : Fin 128) :
    scatter_S256x128_S100000x1_S100000x128_1_0_0_1.start (ix2 n h) idx 1 = 0 := rfl

/-- A row is one row high. -/
theorem rows_window0 (n : Fin 100000) (h : Fin 128) :
    scatter_S256x128_S100000x1_S100000x128_1_0_0_1.window (ix2 n h) 0 = 0 := rfl

/-- Entry `h` of a row goes to column `h`. -/
theorem rows_window1 (n : Fin 100000) (h : Fin 128) :
    scatter_S256x128_S100000x1_S100000x128_1_0_0_1.window (ix2 n h) 1 = h.val := rfl

/-- Node `n`'s one starts at the graph its word says (read signed). -/
theorem ones_start (idx : IVec S100000x1 32) (n : Fin 100000) :
    scatter_S256_S100000x1_S100000_n_0_0_1.start (ix1 n) idx 0 = (idx (ix2 n 0)).toInt := by
  refine congrArg (fun i => (idx i).toInt) (funext fun a => Fin.ext ?_)
  match a with
  | ⟨0, _⟩ => rfl
  | ⟨1, _⟩ => rfl

/-- A one is a single entry. -/
theorem ones_window (n : Fin 100000) : scatter_S256_S100000x1_S100000_n_0_0_1.window (ix1 n) 0 = 0 := rfl

/-- Where entry `h` of node `n`'s row lands: at column `h` of the node's graph, and nowhere when the
    word is no graph. -/
theorem rows_land (idx : IVec S100000x1 32) (n : Fin 100000) (h h' : Fin 128) (g : Fin 256) :
    scatter_S256x128_S100000x1_S100000x128_1_0_0_1.resultIdx? (ix2 n h) idx = some (ix2 g h')
      ↔ (idx (ix2 n 0)).toInt = (g.val : ℤ) ∧ h = h' := by
  refine (Routing.resultIdx?_ix2 _ _ _ g h').trans ?_
  rw [rows_start0, rows_start1, rows_window0, rows_window1, Fin.ext_iff]
  omega

/-- Where node `n`'s one lands: at the node's graph, and nowhere when the word is no graph. -/
theorem ones_land (idx : IVec S100000x1 32) (n : Fin 100000) (g : Fin 256) :
    scatter_S256_S100000x1_S100000_n_0_0_1.resultIdx? (ix1 n) idx = some (ix1 g)
      ↔ (idx (ix2 n 0)).toInt = (g.val : ℤ) := by
  refine (Routing.resultIdx?_ix1 _ _ _ g).trans ?_
  rw [ones_start, ones_window]
  omega

/-- The scatter-add of node rows, at graph `g` and column `h`. -/
theorem rows_apply (z : FVec Ideal S256x128 .f32) (idx : Vec Ideal S100000x1 .i32) (x : FVec Ideal S100000x128 .f32)
    (g : Fin 256) (h : Fin 128) :
    Host.scatterAdd (F := Ideal) scatter_S256x128_S100000x1_S100000x128_1_0_0_1 z idx x (ix2 g h)
      = z (ix2 g h) + total (fun n => idx (ix2 n 0)) (fun n => x (ix2 n h)) g := by
  rw [← sum_signed_eq_total]
  rw [Host.scatterAdd, Ideal.hostScatterAdd_def, Ideal.hostScatterAdd]
  refine congrArg (z (ix2 g h) + ·) ?_
  rw [Finset.sum_filter, sum_idx2]
  refine Finset.sum_congr rfl fun n _ => ?_
  simp only [rows_land]
  by_cases q : (idx (ix2 n 0)).toInt = (g.val : ℤ)
  · simp [q]
  · simp [q]

/-- The scatter-add of one number per node, at graph `g`. -/
theorem ones_apply (z : FVec Ideal S256 .f32) (idx : Vec Ideal S100000x1 .i32) (u : FVec Ideal S100000 .f32) (g : Fin 256) :
    Host.scatterAdd (F := Ideal) scatter_S256_S100000x1_S100000_n_0_0_1 z idx u (ix1 g)
      = z (ix1 g) + total (fun n => idx (ix2 n 0)) (fun n => u (ix1 n)) g := by
  rw [← sum_signed_eq_total]
  rw [Host.scatterAdd, Ideal.hostScatterAdd_def, Ideal.hostScatterAdd]
  refine congrArg (z (ix1 g) + ·) ?_
  rw [Finset.sum_filter, sum_idx1]
  simp only [ones_land]

/-- The reference's result is `logit` of its arguments. -/
theorem reference_apply (x : FVec Ideal S100000x128 .f32) (ids : Vec Ideal S100000 .i32) (emb : FVec Ideal S256x128 .f32)
    (W : FVec Ideal S32x256 .f32) (b : FVec Ideal S32 .f32) (g : Fin 256) (k : Fin 32) :
    addf (F := Ideal) (Host.dotGeneral dot_S256x256_S256x32_S256x32_1_0_0_1_n_n none (concatenate S256x256 1
      [⟨S256x128, Host.divf
          (Host.scatterAdd scatter_S256x128_S100000x1_S100000x128_1_0_0_1
            (broadcastInDim S256x128 ![] bcast_S_S256x128 (constant S_ .f32 0x00000000#32))
            (broadcastInDim S100000x1 ![0] bcast_S100000_S100000x1_0 ids) x)
          (broadcastInDim S256x128 ![0, 1] bcast_S256x1_S256x128_0_1 (broadcastInDim S256x1 ![0] bcast_S256_S256x1_0
            (maximumf
              (Host.scatterAdd scatter_S256_S100000x1_S100000_n_0_0_1
                (broadcastInDim S256 ![] bcast_S_S256 (constant S_ .f32 0x00000000#32))
                (broadcastInDim S100000x1 ![0] bcast_S100000_S100000x1_0 ids)
                (broadcastInDim S100000 ![] bcast_S_S100000 (constant S_ .f32 0x3F800000#32)))
              (broadcastInDim S256 ![] bcast_S_S256 (constant S_ .f32 0x3F800000#32)))))⟩,
       ⟨S256x128, emb⟩] concatenates_S256x128_S256x128_S256x256_d1)
      (transpose S256x32 [1, 0] W transposes_S32x256_S256x32_1_0))
      (broadcastInDim S256x32 ![0, 1] bcast_S1x32_S256x32_0_1 (broadcastInDim S1x32 ![1] bcast_S32_S1x32_1 b)) (ix2 g k)
      = logit (fun n => ids (ix1 n)) (fun n h => x (ix2 n h)) (fun g h => emb (ix2 g h)) (fun k j => W (ix2 k j))
          (fun k => b (ix1 k)) g k := by
  unfold logit
  pointwise
  simp only [rows_apply, ones_apply]
  pointwise
  simp only [total_one]

end Cert.Pooling

end
-- ==== Proof.lean ====
/-
  The proof of the claim: the kernel as printed and the reference keep their arguments and leave
  every semaphore at zero, and on equal arguments the kernel's result is the reference's. Both
  results are shown to be the same function of the arguments, `Cert.Pooling.logit`.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference keeps its arguments and uses no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel's result and the reference's are equal, and both keep their arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine funext fun i => ?_
  obtain ⟨g, k, rfl⟩ : ∃ (g : Fin 256) (k : Fin 32), i = ix2 g k := ⟨i 0, i 1, eq_ix2 i⟩
  obtain ⟨e0, e1, e2, e3, e4⟩ := hagree c
  refine (Cert.Pooling.reference_apply _ _ _ _ _ g k).trans (Eq.trans ?_ (Cert.Pooling.kernel_apply m c g k).symm)
  simp only [e0, e1, e2, e3, e4]

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
